-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tensors_finite [hPre_tensors_finite : Cert.Pre_tensors_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tensors_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_tensors_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_tensors_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tensors_finite [hPre_tensors_finite : Cert.Pre_tensors_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tensors_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_tensors_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_tensors_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tensors_finite [hKernelIdeal : Cert.KernelIdeal.Facts] [hPre_tensors_finite : Cert.Pre_tensors_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tensors_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tensors_finite [hReferenceIdeal : Cert.ReferenceIdeal.Facts] [hPre_tensors_finite : Cert.Pre_tensors_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tensors_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_tensors_finite [hKernelIdeal : Cert.KernelIdeal.Facts] [hReferenceIdeal : Cert.ReferenceIdeal.Facts] [hPre_tensors_finite : Cert.Pre_tensors_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tensors_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_tensors_finite : Cert.Pre_tensors_finite.Facts),
    quiescent_Kernel (hKernel := hKernel)
    ∧ quiescent_KernelIdeal (hKernelIdeal := hKernelIdeal)
    ∧ quiescent_KernelIdeal_pre_tensors_finite (hKernelIdeal := hKernelIdeal) (hPre_tensors_finite := hPre_tensors_finite)
    ∧ quiescent_ReferenceIdeal (hReferenceIdeal := hReferenceIdeal)
    ∧ quiescent_ReferenceIdeal_pre_tensors_finite (hReferenceIdeal := hReferenceIdeal) (hPre_tensors_finite := hPre_tensors_finite)
    ∧ preserves_Kernel_KernelIdeal
    ∧ algebraic_KernelIdeal_ReferenceIdeal_pre_tensors_finite (hKernelIdeal := hKernelIdeal) (hReferenceIdeal := hReferenceIdeal) (hPre_tensors_finite := hPre_tensors_finite)
-- ==== Pre_tensors_finite.lean ====
abbrev S10000x128 : Shape := ⟨2, ![10000, 128]⟩
abbrev S10000x2x128 : Shape := ⟨3, ![10000, 2, 128]⟩
abbrev S128x128x256 : Shape := ⟨3, ![128, 128, 256]⟩
abbrev S128x256 : Shape := ⟨2, ![128, 256]⟩
abbrev S256 : Shape := ⟨1, ![256]⟩
abbrev S128x128x384 : Shape := ⟨3, ![128, 128, 384]⟩
abbrev S128x384 : Shape := ⟨2, ![128, 384]⟩
abbrev S384 : Shape := ⟨1, ![384]⟩
abbrev S1x384 : Shape := ⟨2, ![1, 384]⟩
abbrev S_ : Shape := ⟨0, ![]⟩

class Facts : Prop where
  bcast_S_S10000x2x128 : S_.BroadcastsInDim S10000x2x128 (![] : Fin 0 → Fin S10000x2x128.rank)
  bcast_S_S128x128x256 : S_.BroadcastsInDim S128x128x256 (![] : Fin 0 → Fin S128x128x256.rank)
  bcast_S_S128x128x384 : S_.BroadcastsInDim S128x128x384 (![] : Fin 0 → Fin S128x128x384.rank)

variable [Facts]

def fn {F : FTy → Type} [FloatOps F] (main_arg0 : FVec F S10000x128 .f32) (main_arg1 : FVec F S10000x2x128 .f32) (main_arg2 : FVec F S10000x2x128 .f32) (main_arg3 : FVec F S128x128x256 .f32) (main_arg4 : FVec F S128x256 .f32) (main_arg5 : FVec F S128x256 .f32) (main_arg6 : FVec F S256 .f32) (main_arg7 : FVec F S128x128x384 .f32) (main_arg8 : FVec F S128x384 .f32) (main_arg9 : FVec F S128x384 .f32) (main_arg10 : FVec F S384 .f32) (main_arg11 : FVec F S128x384 .f32) (main_arg12 : FVec F S1x384 .f32) : IVec S10000x2x128 1 × IVec S128x128x256 1 × IVec S128x128x384 1 :=
  let main_v0 : FVec F S10000x2x128 .f32 := Host.absf main_arg1
  let main_cst : FVec F S_ .f32 := constant S_ .f32 0x7F800000#32
  let main_v1 : FVec F S10000x2x128 .f32 := broadcastInDim S10000x2x128 ![] bcast_S_S10000x2x128 main_cst
  let main_v2 : IVec S10000x2x128 1 := cmpf .olt main_v0 main_v1
  let main_v3 : FVec F S128x128x256 .f32 := Host.absf main_arg3
  let main_cst_0 : FVec F S_ .f32 := constant S_ .f32 0x7F800000#32
  let main_v4 : FVec F S128x128x256 .f32 := broadcastInDim S128x128x256 ![] bcast_S_S128x128x256 main_cst_0
  let main_v5 : IVec S128x128x256 1 := cmpf .olt main_v3 main_v4
  let main_v6 : FVec F S128x128x384 .f32 := Host.absf main_arg7
  let main_cst_1 : FVec F S_ .f32 := constant S_ .f32 0x7F800000#32
  let main_v7 : FVec F S128x128x384 .f32 := broadcastInDim S128x128x384 ![] bcast_S_S128x128x384 main_cst_1
  let main_v8 : IVec S128x128x384 1 := cmpf .olt main_v6 main_v7
  (main_v2, main_v5, main_v8)
-- ==== Kernel.lean ====
abbrev S10000x128 : Shape := ⟨2, ![10000, 128]⟩
abbrev S10000x2x128 : Shape := ⟨3, ![10000, 2, 128]⟩
abbrev S128x128x256 : Shape := ⟨3, ![128, 128, 256]⟩
abbrev S128x256 : Shape := ⟨2, ![128, 256]⟩
abbrev S256 : Shape := ⟨1, ![256]⟩
abbrev S128x128x384 : Shape := ⟨3, ![128, 128, 384]⟩
abbrev S128x384 : Shape := ⟨2, ![128, 384]⟩
abbrev S384 : Shape := ⟨1, ![384]⟩
abbrev S1x384 : Shape := ⟨2, ![1, 384]⟩
abbrev S10000x1x128 : Shape := ⟨3, ![10000, 1, 128]⟩
abbrev S_ : Shape := ⟨0, ![]⟩
abbrev S10000x1 : Shape := ⟨2, ![10000, 1]⟩
abbrev S10000x127 : Shape := ⟨2, ![10000, 127]⟩
abbrev S10000x512 : Shape := ⟨2, ![10000, 512]⟩
abbrev S16384x256 : Shape := ⟨2, ![16384, 256]⟩
abbrev S16384x384 : Shape := ⟨2, ![16384, 384]⟩
abbrev S16384x640 : Shape := ⟨2, ![16384, 640]⟩
abbrev S128x640 : Shape := ⟨2, ![128, 640]⟩
abbrev S640 : Shape := ⟨1, ![640]⟩
abbrev S1x640 : Shape := ⟨2, ![1, 640]⟩
abbrev S127x640 : Shape := ⟨2, ![127, 640]⟩
abbrev S512x640 : Shape := ⟨2, ![512, 640]⟩
abbrev S10000x256 : Shape := ⟨2, ![10000, 256]⟩
abbrev S200x512 : Shape := ⟨2, ![200, 512]⟩
abbrev S200x256 : Shape := ⟨2, ![200, 256]⟩
abbrev S200x128 : Shape := ⟨2, ![200, 128]⟩
abbrev S200x640 : Shape := ⟨2, ![200, 640]⟩
abbrev S200 : Shape := ⟨1, ![200]⟩
abbrev S200x1 : Shape := ⟨2, ![200, 1]⟩
abbrev S200x16 : Shape := ⟨2, ![200, 16]⟩
abbrev S200x16x1 : Shape := ⟨3, ![200, 16, 1]⟩
abbrev S200x1x128 : Shape := ⟨3, ![200, 1, 128]⟩
abbrev S200x16x128 : Shape := ⟨3, ![200, 16, 128]⟩
abbrev S200x2048 : Shape := ⟨2, ![200, 2048]⟩
abbrev S2048x640 : Shape := ⟨2, ![2048, 640]⟩

abbrev nBuf : Space → Nat
  | .hbm => 48
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x2x128, .f32⟩
  | .hbm, ⟨2, _⟩ => ⟨S10000x2x128, .f32⟩
  | .hbm, ⟨3, _⟩ => ⟨S128x128x256, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S128x128x384, .f32⟩
  | .hbm, ⟨8, _⟩ => ⟨S128x384, .f32⟩
  | .hbm, ⟨9, _⟩ => ⟨S128x384, .f32⟩
  | .hbm, ⟨10, _⟩ => ⟨S384, .f32⟩
  | .hbm, ⟨11, _⟩ => ⟨S128x384, .f32⟩
  | .hbm, ⟨12, _⟩ => ⟨S1x384, .f32⟩
  | .hbm, ⟨13, _⟩ => ⟨S10000x1x128, .f32⟩
  | .hbm, ⟨14, _⟩ => ⟨S10000x128, .f32⟩
  | .hbm, ⟨15, _⟩ => ⟨S10000x1x128, .f32⟩
  | .hbm, ⟨16, _⟩ => ⟨S10000x128, .f32⟩
  | .hbm, ⟨17, _⟩ => ⟨S_, .f32⟩
  | .hbm, ⟨18, _⟩ => ⟨S10000x1, .f32⟩
  | .hbm, ⟨19, _⟩ => ⟨S_, .f32⟩
  | .hbm, ⟨20, _⟩ => ⟨S10000x127, .f32⟩
  | .hbm, ⟨21, _⟩ => ⟨S10000x512, .f32⟩
  | .hbm, ⟨22, _⟩ => ⟨S16384x256, .f32⟩
  | .hbm, ⟨23, _⟩ => ⟨S16384x384, .f32⟩
  | .hbm, ⟨24, _⟩ => ⟨S16384x640, .f32⟩
  | .hbm, ⟨25, _⟩ => ⟨S_, .f32⟩
  | .hbm, ⟨26, _⟩ => ⟨S16384x640, .f32⟩
  | .hbm, ⟨27, _⟩ => ⟨S16384x640, .f32⟩
  | .hbm, ⟨28, _⟩ => ⟨S16384x640, .bf16⟩
  | .hbm, ⟨29, _⟩ => ⟨S16384x640, .f32⟩
  | .hbm, ⟨30, _⟩ => ⟨S16384x640, .f32⟩
  | .hbm, ⟨31, _⟩ => ⟨S16384x640, .bf16⟩
  | .hbm, ⟨32, _⟩ => ⟨S128x640, .f32⟩
  | .hbm, ⟨33, _⟩ => ⟨S128x640, .f32⟩
  | .hbm, ⟨34, _⟩ => ⟨S_, .f32⟩
  | .hbm, ⟨35, _⟩ => ⟨S128x256, .f32⟩
  | .hbm, ⟨36, _⟩ => ⟨S128x640, .f32⟩
  | .hbm, ⟨37, _⟩ => ⟨S384, .f32⟩
  | .hbm, ⟨38, _⟩ => ⟨S384, .f32⟩
  | .hbm, ⟨39, _⟩ => ⟨S640, .f32⟩
  | .hbm, ⟨40, _⟩ => ⟨S1x640, .f32⟩
  | .hbm, ⟨41, _⟩ => ⟨S_, .f32⟩
  | .hbm, ⟨42, _⟩ => ⟨S127x640, .f32⟩
  | .hbm, ⟨43, _⟩ => ⟨S512x640, .f32⟩
  | .hbm, ⟨44, _⟩ => ⟨S512x640, .bf16⟩
  | .hbm, ⟨45, _⟩ => ⟨S10000x256, .f32⟩
  | .hbm, ⟨46, _⟩ => ⟨S10000x128, .f32⟩
  | .hbm, ⟨47, _⟩ => ⟨S10000x128, .f32⟩
  | .local _ .vmem, ⟨0, _⟩ => ⟨S200x512, .f32⟩
  | .local _ .vmem, ⟨1, _⟩ => ⟨S200x512, .f32⟩
  | .local _ .vmem, ⟨2, _⟩ => ⟨S200x256, .f32⟩
  | .local _ .vmem, ⟨3, _⟩ => ⟨S200x256, .f32⟩
  | .local _ .vmem, ⟨4, _⟩ => ⟨S16384x640, .bf16⟩
  | .local _ .vmem, ⟨5, _⟩ => ⟨S16384x640, .bf16⟩
  | .local _ .vmem, ⟨6, _⟩ => ⟨S512x640, .bf16⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16384x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10000x128 : Shape := ⟨2, ![10000, 128]⟩
abbrev S10000x2x128 : Shape := ⟨3, ![10000, 2, 128]⟩
abbrev S128x128x256 : Shape := ⟨3, ![128, 128, 256]⟩
abbrev S128x256 : Shape := ⟨2, ![128, 256]⟩
abbrev S256 : Shape := ⟨1, ![256]⟩
abbrev S128x128x384 : Shape := ⟨3, ![128, 128, 384]⟩
abbrev S128x384 : Shape := ⟨2, ![128, 384]⟩
abbrev S384 : Shape := ⟨1, ![384]⟩
abbrev S1x384 : Shape := ⟨2, ![1, 384]⟩
abbrev S10000x1x128 : Shape := ⟨3, ![10000, 1, 128]⟩
abbrev S10000x128x256 : Shape := ⟨3, ![10000, 128, 256]⟩
abbrev S10000x256 : Shape := ⟨2, ![10000, 256]⟩
abbrev S1x256 : Shape := ⟨2, ![1, 256]⟩
abbrev S10000x128x384 : Shape := ⟨3, ![10000, 128, 384]⟩
abbrev S10000x384 : Shape := ⟨2, ![10000, 384]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x2x128, .f32⟩
  | .hbm, ⟨2, _⟩ => ⟨S10000x2x128, .f32⟩
  | .hbm, ⟨3, _⟩ => ⟨S128x128x256, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S128x128x384, .f32⟩
  | .hbm, ⟨8, _⟩ => ⟨S128x384, .f32⟩
  | .hbm, ⟨9, _⟩ => ⟨S128x384, .f32⟩
  | .hbm, ⟨10, _⟩ => ⟨S384, .f32⟩
  | .hbm, ⟨11, _⟩ => ⟨S128x384, .f32⟩
  | .hbm, ⟨12, _⟩ => ⟨S1x384, .f32⟩
  | .hbm, ⟨13, _⟩ => ⟨S10000x1x128, .f32⟩
  | .hbm, ⟨14, _⟩ => ⟨S10000x128, .f32⟩
  | .hbm, ⟨15, _⟩ => ⟨S10000x1x128, .f32⟩
  | .hbm, ⟨16, _⟩ => ⟨S10000x128, .f32⟩
  | .hbm, ⟨17, _⟩ => ⟨S10000x128x256, .f32⟩
  | .hbm, ⟨18, _⟩ => ⟨S10000x256, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S10000x256, .f32⟩
  | .hbm, ⟨23, _⟩ => ⟨S1x256, .f32⟩
  | .hbm, ⟨24, _⟩ => ⟨S10000x256, .f32⟩
  | .hbm, ⟨25, _⟩ => ⟨S10000x256, .f32⟩
  | .hbm, ⟨26, _⟩ => ⟨S10000x1x128, .f32⟩
  | .hbm, ⟨27, _⟩ => ⟨S10000x128, .f32⟩
  | .hbm, ⟨28, _⟩ => ⟨S10000x1x128, .f32⟩
  | .hbm, ⟨29, _⟩ => ⟨S10000x128, .f32⟩
  | .hbm, ⟨30, _⟩ => ⟨S10000x128x384, .f32⟩
  | .hbm, ⟨31, _⟩ => ⟨S10000x384, .f32⟩
  | .hbm, ⟨32, _⟩ => ⟨S10000x384, .f32⟩
  | .hbm, ⟨33, _⟩ => ⟨S10000x384, .f32⟩
  | .hbm, ⟨34, _⟩ => ⟨S10000x384, .f32⟩
  | .hbm, ⟨35, _⟩ => ⟨S10000x384, .f32⟩
  | .hbm, ⟨36, _⟩ => ⟨S1x384, .f32⟩
  | .hbm, ⟨37, _⟩ => ⟨S10000x384, .f32⟩
  | .hbm, ⟨38, _⟩ => ⟨S10000x384, .f32⟩
  | .hbm, ⟨39, _⟩ => ⟨S10000x256, .f32⟩
  | .hbm, ⟨40, _⟩ => ⟨S10000x256, .f32⟩
  | .hbm, ⟨41, _⟩ => ⟨S_, .f32⟩
  | .hbm, ⟨42, _⟩ => ⟨S10000x256, .f32⟩
  | .hbm, ⟨43, _⟩ => ⟨S10000x256, .f32⟩
  | .hbm, ⟨44, _⟩ => ⟨S_, .f32⟩
  | .hbm, ⟨45, _⟩ => ⟨S10000x256, .f32⟩
  | .hbm, ⟨46, _⟩ => ⟨S10000x256, .f32⟩
  | .hbm, ⟨47, _⟩ => ⟨S10000x2x128, .f32⟩
  | .hbm, ⟨48, _⟩ => ⟨S10000x2x128, .f32⟩
  | .hbm, ⟨49, _⟩ => ⟨S_, .f32⟩
  | .hbm, ⟨50, _⟩ => ⟨S10000x128, .f32⟩
  | .hbm, ⟨51, _⟩ => ⟨S10000x384, .f32⟩
  | .hbm, ⟨52, _⟩ => ⟨S10000x384, .f32⟩
  | .hbm, ⟨53, _⟩ => ⟨S10000x384, .f32⟩
  | .hbm, ⟨54, _⟩ => ⟨S10000x384, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S10000x128, .f32⟩
  | .hbm, ⟨78, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_cst_0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Proof.Sums.lean ====
module

public import Idealize.ShloMosaic.Lib.Pointwise
public import Idealize.ShloMosaic.PureOps.Ideal.Laws

/-! The sums of one gate, in the extended reals: a contraction over 16384 flattened pairs taken in eight chunks,
    with the tensor shifted down by one half and the shift added back as a product of two sums. -/

@[expose] public section

noncomputable section

namespace Cert.Cell

open Idealize.ShloMosaic
open scoped BigOperators

/-- The 32-bit pattern of one half reads as the real number one half. -/
theorem half_pattern : Ideal.ofBits .f32 0x3F000000#32 = ((1 / 2 : ℝ) : EReal) := by
  simp [Ideal.ofBits, Ideal.ieee, -EReal.coe_mul]; norm_num

/-- The inclusion of the reals in the extended reals takes a finite sum to the sum of the images. -/
theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

/-- Chunk `t` of the contraction of the flattened outer product of `p` and `q` with `a`: its 2048 flat positions
    start at `2048 t`, which are the pairs whose first member is among the 16 from `16 t` on. -/
def part (p q : Fin 128 → EReal) (a : Fin 16384 → EReal) (t : Fin 8) : EReal :=
  ∑ x : Fin 2048, p ⟨16 * t.val + x.val / 128, by omega⟩ * q ⟨x.val % 128, by omega⟩ * a ⟨2048 * t.val + x.val, by omega⟩

/-- The eight chunks together are the double sum over the pairs. -/
theorem sum_part (p q : Fin 128 → EReal) (a : Fin 16384 → EReal) :
    ∑ t : Fin 8, part p q a t = ∑ i : Fin 128, ∑ j : Fin 128, p i * q j * a ⟨128 * i.val + j.val, by omega⟩ := by
  have e : ∀ t : Fin 8, part p q a t = ∑ u : Fin 16, ∑ j : Fin 128,
      p ⟨16 * t.val + u.val, by omega⟩ * q j * a ⟨128 * (16 * t.val + u.val) + j.val, by omega⟩ := by
    intro t
    rw [← Fintype.sum_prod_type', part, ← Equiv.sum_comp (finProdFinEquiv (m := 16) (n := 128))]
    refine Finset.sum_congr rfl fun y _ => ?_
    have h : (finProdFinEquiv y : Fin (16 * 128)).val = y.2.val + 128 * y.1.val := rfl
    have h1 : (y.2.val + 128 * y.1.val) / 128 = y.1.val := by omega
    have h2 : (y.2.val + 128 * y.1.val) % 128 = y.2.val := by omega
    have h3 : 2048 * t.val + (y.2.val + 128 * y.1.val) = 128 * (16 * t.val + y.1.val) + y.2.val := by omega
    simp only [h, h1, h2, h3]
  simp only [e]
  rw [← Fintype.sum_prod_type', ← Equiv.sum_comp (finProdFinEquiv (m := 8) (n := 16))]
  refine Finset.sum_congr rfl fun y _ => Finset.sum_congr rfl fun j _ => ?_
  have h : (finProdFinEquiv y : Fin (8 * 16)) = (⟨16 * y.1.val + y.2.val, by omega⟩ : Fin 128) := by
    apply Fin.ext; show y.2.val + 16 * y.1.val = 16 * y.1.val + y.2.val; omega
  simp only [h]

/-- The value of one gate before its nonlinearity: a product over 512 positions, half the product of the sums of the
    two vectors read from the first 256 of them, and the eight chunks with the high and the low tensor in turn. -/
def gate (x b : Fin 512 → EReal) (hi lo : Fin 16384 → EReal) : EReal :=
  let p : Fin 128 → EReal := fun i => x ⟨i.val, by omega⟩
  let q : Fin 128 → EReal := fun j => x ⟨128 + j.val, by omega⟩
  ∑ l, x l * b l + Ideal.ofBits .f32 0x3F000000#32 * ((∑ i, p i) * ∑ j, q j)
    + part p q hi 0 + part p q lo 0 + part p q hi 1 + part p q lo 1 + part p q hi 2 + part p q lo 2
    + part p q hi 3 + part p q lo 3 + part p q hi 4 + part p q lo 4 + part p q hi 5 + part p q lo 5
    + part p q hi 6 + part p q lo 6 + part p q hi 7 + part p q lo 7

/-- A chunk with the zero tensor is zero. -/
theorem part_zero (p q : Fin 128 → EReal) (t : Fin 8) : part p q (fun _ => 0) t = 0 := by
  simp [part]

/-- For finite vectors and a finite tensor, half the product of the two sums and the contraction with the tensor less
    one half add up to the contraction with the tensor, the first vector contracted first. -/
theorem shifted_contraction (p q : Fin 128 → ℝ) (a : Fin 16384 → ℝ) :
    ((1 / 2 : ℝ) : EReal) * ((∑ i, (p i : EReal)) * ∑ j, (q j : EReal))
        + ∑ i : Fin 128, ∑ j : Fin 128, (p i : EReal) * (q j : EReal)
            * ((a ⟨128 * i.val + j.val, by omega⟩ : EReal) - ((1 / 2 : ℝ) : EReal))
      = ∑ j : Fin 128, (q j : EReal) * ∑ i : Fin 128, (p i : EReal) * (a ⟨128 * i.val + j.val, by omega⟩ : EReal) := by
  simp only [← EReal.coe_mul, ← EReal.coe_sub, ← coe_sum, ← EReal.coe_add]
  refine congrArg _ ?_
  have e : (∑ i, p i) * ∑ j, q j = ∑ i, ∑ j, p i * q j := Finset.sum_mul_sum _ _ _ _
  rw [e, Finset.mul_sum, ← Finset.sum_add_distrib]
  simp only [Finset.mul_sum, ← Finset.sum_add_distrib]
  rw [Finset.sum_comm]
  exact Finset.sum_congr rfl fun j _ => Finset.sum_congr rfl fun i _ => by ring

/-- A gate whose first 256 entries and tensor are finite, the high tensor the tensor less one half and the low tensor
    what that leaves of itself, is the product over the 512 positions plus the contraction with the tensor. -/
theorem gate_eq (x b : Fin 512 → EReal) (p q : Fin 128 → ℝ) (a : Fin 16384 → ℝ)
    (hp : ∀ i : Fin 128, x ⟨i.val, by omega⟩ = (p i : EReal)) (hq : ∀ j : Fin 128, x ⟨128 + j.val, by omega⟩ = (q j : EReal))
    (hi lo : Fin 16384 → EReal) (hhi : ∀ r, hi r = (a r : EReal) - Ideal.ofBits .f32 0x3F000000#32)
    (hlo : ∀ r, lo r = hi r - hi r) :
    gate x b hi lo = ∑ l, x l * b l
      + ∑ j : Fin 128, (q j : EReal) * ∑ i : Fin 128, (p i : EReal) * (a ⟨128 * i.val + j.val, by omega⟩ : EReal) := by
  have elo : lo = fun _ => 0 := by
    funext r
    rw [hlo, hhi, half_pattern, ← EReal.coe_sub, ← EReal.coe_sub, sub_self, EReal.coe_zero]
  have ehi : hi = fun r => (a r : EReal) - ((1 / 2 : ℝ) : EReal) := by
    funext r; rw [hhi, half_pattern]
  have s := sum_part (fun i => (p i : EReal)) (fun j => (q j : EReal)) hi
  rw [← shifted_contraction]
  subst ehi
  rw [← s]
  simp only [gate, hp, hq, elo, part_zero, add_zero, half_pattern, Fin.sum_univ_eight, add_assoc]

/-- A sum over 512 positions, cut into three of 128, the single position 384 and the last 127. -/
theorem sum_512 (f : Fin 512 → EReal) :
    ∑ l, f l = ∑ i : Fin 128, f ⟨i.val, by omega⟩ + (∑ i : Fin 128, f ⟨128 + i.val, by omega⟩
      + (∑ i : Fin 128, f ⟨256 + i.val, by omega⟩ + (f 384 + ∑ i : Fin 127, f ⟨385 + i.val, by omega⟩))) := by
  have h1 := Fin.sum_univ_add (a := 128) (b := 384) f
  have h2 := Fin.sum_univ_add (a := 128) (b := 256) fun i : Fin 384 => f (Fin.natAdd 128 i)
  have h3 := Fin.sum_univ_add (a := 128) (b := 128) fun i : Fin 256 => f (Fin.natAdd 128 (Fin.natAdd 128 i))
  have h4 := Fin.sum_univ_succ fun i : Fin 128 => f (Fin.natAdd 128 (Fin.natAdd 128 (Fin.natAdd 128 i)))
  rw [h4] at h3
  rw [h3] at h2
  rw [h2] at h1
  refine h1.trans ?_
  refine congrArg₂ _ rfl (congrArg₂ _ rfl (congrArg₂ _ (Finset.sum_congr rfl fun i _ => congrArg f (Fin.ext ?_))
    (congrArg₂ _ (congrArg f (Fin.ext rfl)) (Finset.sum_congr rfl fun i _ => congrArg f (Fin.ext ?_)))))
  · show 128 + (128 + i.val) = 256 + i.val; omega
  · show 128 + (128 + (128 + (i.val + 1))) = 385 + i.val; omega

end Cert.Cell

end
-- ==== Proof.Block.lean ====
module

public import proofs.«01_k».proof.Proof.Gen.KernelIdeal.Frame
public import proofs.«01_k».proof.Proof.Sums
public import Idealize.ShloMosaic.Lib.Pointwise
public import Idealize.ShloMosaic.Lib.Pipeline.Value
public import Idealize.ShloMosaic.Lib.Pipeline.ValueKit
public import Idealize.ShloMosaic.PureOps.Ideal.Laws

/-! What one grid point of the kernel computes, entry by entry. -/

@[expose] public section

set_option maxRecDepth 16384

noncomputable section

namespace Cert.Cell

open Cert.KernelIdeal Cert.KernelIdeal.Gen Idealize.ShloMosaic Idealize.ShloMosaic.TcCoe Idealize.SL.Sem
open Idealize.ShloMosaic.Pipeline (Dat)
open scoped BigOperators

/-- The new cell state from the 640 gate values of a node (two forget gates, input gate, output gate, update) and the cell
    states of its two children. -/
def cellOf (g : Fin 640 → EReal) (s : Fin 256 → EReal) (q : Fin 128) : EReal :=
  Ideal.logistic (g ⟨256 + q.val, by omega⟩) * Ideal.tanh (g ⟨512 + q.val, by omega⟩)
    + (Ideal.logistic (g ⟨q.val, by omega⟩) * s ⟨q.val, by omega⟩
      + Ideal.logistic (g ⟨128 + q.val, by omega⟩) * s ⟨128 + q.val, by omega⟩)

/-- The new hidden state from the same values. -/
def hiddenOf (g : Fin 640 → EReal) (s : Fin 256 → EReal) (q : Fin 128) : EReal :=
  Ideal.logistic (g ⟨384 + q.val, by omega⟩) * Ideal.tanh (cellOf g s q)

/-- Gate value `k` of row `r` of a block: the row of the small operand against column `k` of the small table, and the
    chunked outer product against the two large tables. -/
theorem gate_block (x0 : Vec Ideal S200x512 .f32) (x1 : Vec Ideal S200x256 .f32)
    (x2 x3 : Vec Ideal S16384x640 .bf16) (x4 : Vec Ideal S512x640 .bf16) (r : Fin 200) (k : Fin 640) :
    k0_pay1 (F := Ideal) (k0_pay13 x0 x1 x2 x3 x4) (k0_pay14 x0 x1 x2 x3 x4) (k0_pay15 x0 x1 x2 x3 x4)
        (View.ld x2 r0_9) (View.ld x3 r0_9) (ix2 r k)
      = gate (fun l => x0 (ix2 r l)) (fun l => x4 (ix2 l k)) (fun p => x2 (ix2 p k)) (fun p => x3 (ix2 p k)) := by
  pointwise [k0_pay1, k0_pay15, k0_pay14, k0_pay13, k0_pay12, k0_pay11, k0_pay10, k0_pay9, k0_pay8, k0_pay7, k0_pay4,
    k0_pay5, k0_pay6]
  simp only [gate, part, Fin.isValue, Fin.coe_ofNat_eq_mod, Nat.reduceMod, Nat.reduceMul, Nat.zero_mod, mul_zero,
    zero_add]

/-- The cell state a block stores, over the block's gate values. -/
theorem cell_block (v2 v3 : FVec Ideal S200x128 .f32) (g : FVec Ideal S200x640 .f32) (p q : Vec Ideal S2048x640 .bf16)
    (s : Vec Ideal S200x256 .f32) (r : Fin 200) (k : Fin 128) :
    k0_pay2 (F := Ideal) v2 v3 g p q s (ix2 r k)
      = cellOf (fun j => k0_pay1 (F := Ideal) v2 v3 g p q (ix2 r j)) (fun j => s (ix2 r j)) k := by
  unfold k0_pay2
  generalize k0_pay1 (F := Ideal) v2 v3 g p q = G
  pointwise
  rfl

/-- The hidden state a block stores, over the block's gate values. -/
theorem hidden_block (v2 v3 : FVec Ideal S200x128 .f32) (g : FVec Ideal S200x640 .f32)
    (p q : Vec Ideal S2048x640 .bf16) (s : Vec Ideal S200x256 .f32) (r : Fin 200) (k : Fin 128) :
    k0_pay3 (F := Ideal) v2 v3 g p q s (ix2 r k)
      = hiddenOf (fun j => k0_pay1 (F := Ideal) v2 v3 g p q (ix2 r j)) (fun j => s (ix2 r j)) k := by
  have h := cell_block v2 v3 g p q s r k
  unfold k0_pay3
  generalize k0_pay2 (F := Ideal) v2 v3 g p q s = C at h
  generalize k0_pay1 (F := Ideal) v2 v3 g p q = G at h
  pointwise
  rw [h]
  rfl

/-- Point `t` reads the `t`-th block of rows of the small operand. -/
theorem idx0 : ∀ t : Fin grid0.N, win0_0.index t = ![t.val, 0] := by decide +kernel
/-- Point `t` reads the `t`-th block of rows of the cell states. -/
theorem idx1 : ∀ t : Fin grid0.N, win0_1.index t = ![t.val, 0] := by decide +kernel
/-- Every point reads the whole high table. -/
theorem idx2 : ∀ t : Fin grid0.N, win0_2.index t = ![0, 0] := by decide +kernel
/-- Every point reads the whole low table. -/
theorem idx3 : ∀ t : Fin grid0.N, win0_3.index t = ![0, 0] := by decide +kernel
/-- Every point reads the whole small table. -/
theorem idx4 : ∀ t : Fin grid0.N, win0_4.index t = ![0, 0] := by decide +kernel
/-- Point `t` writes the `t`-th block of rows of the hidden states. -/
theorem idx5 : ∀ t : Fin grid0.N, win0_5.index t = ![t.val, 0] := by decide +kernel
/-- Point `t` writes the `t`-th block of rows of the new cell states. -/
theorem idx6 : ∀ t : Fin grid0.N, win0_6.index t = ![t.val, 0] := by decide +kernel
/-- The grid has fifty points. -/
theorem points_50 : grid0.N = 50 := by decide +kernel

/-- The node that row `r` of grid point `t` handles. -/
def node (t : Fin grid0.N) (r : Fin 200) : Fin 10000 :=
  ⟨200 * t.val + r.val, by have h : t.val < 50 := points_50 ▸ t.isLt; omega⟩

variable (m : (ℓ : Loc nD τ sig) → Buf (Elt Ideal) ℓ) (c : Dev nD)

/-- Gate value `k` of node `n`, over the arrays the region starts from. -/
def gateAt (n : Fin 10000) (k : Fin 640) : EReal :=
  gate (fun l => (show S10000x512.Idx → EReal from V m c main_v6) (ix2 n l))
    (fun l => (show S512x640.Idx → EReal from V m c main_v26) (ix2 l k))
    (fun p => (show S16384x640.Idx → EReal from V m c main_v12) (ix2 p k))
    (fun p => (show S16384x640.Idx → EReal from V m c main_v15) (ix2 p k))

/-- The children's cell states of node `n`, laid side by side. -/
def childAt (n : Fin 10000) (j : Fin 256) : EReal := (show S10000x256.Idx → EReal from V m c main_v27) (ix2 n j)

/-- Row `r` of a block of the small operand is the row of its node. -/
theorem read0 (t : Fin cfg0.N) (r : Fin 200) (n : Fin 10000) (hn : n.val = 200 * t.val + r.val) (l : Fin 512) :
    (show S200x512.Idx → EReal from iblk m c 0 t) (ix2 r l)
      = (show S10000x512.Idx → EReal from V m c main_v6) (ix2 n l) := by
  blk_ext [iblk, idx0 t]
/-- Row `r` of a block of cell states is the row of its node. -/
theorem read1 (t : Fin cfg0.N) (r : Fin 200) (n : Fin 10000) (hn : n.val = 200 * t.val + r.val) (l : Fin 256) :
    (show S200x256.Idx → EReal from iblk m c 1 t) (ix2 r l)
      = (show S10000x256.Idx → EReal from V m c main_v27) (ix2 n l) := by
  blk_ext [iblk, idx1 t]
/-- The block of the high table is the table. -/
theorem read2 (t : Fin cfg0.N) (p : Fin 16384) (l : Fin 640) :
    (show S16384x640.Idx → EReal from iblk m c 2 t) (ix2 p l)
      = (show S16384x640.Idx → EReal from V m c main_v12) (ix2 p l) := by
  blk_ext [iblk, idx2 t]
/-- The block of the low table is the table. -/
theorem read3 (t : Fin cfg0.N) (p : Fin 16384) (l : Fin 640) :
    (show S16384x640.Idx → EReal from iblk m c 3 t) (ix2 p l)
      = (show S16384x640.Idx → EReal from V m c main_v15) (ix2 p l) := by
  blk_ext [iblk, idx3 t]
/-- The block of the small table is the table. -/
theorem read4 (t : Fin cfg0.N) (p : Fin 512) (l : Fin 640) :
    (show S512x640.Idx → EReal from iblk m c 4 t) (ix2 p l)
      = (show S512x640.Idx → EReal from V m c main_v26) (ix2 p l) := by
  blk_ext [iblk, idx4 t]

/-- The gate values of a block are those of its nodes. -/
theorem gate_point (t : Fin cfg0.N) (r : Fin 200) (k : Fin 640) :
    k0_pay1 (F := Ideal) (k0_pay13 (iblk m c 0 t) (iblk m c 1 t) (iblk m c 2 t) (iblk m c 3 t) (iblk m c 4 t))
        (k0_pay14 (iblk m c 0 t) (iblk m c 1 t) (iblk m c 2 t) (iblk m c 3 t) (iblk m c 4 t))
        (k0_pay15 (iblk m c 0 t) (iblk m c 1 t) (iblk m c 2 t) (iblk m c 3 t) (iblk m c 4 t))
        (View.ld (iblk m c 2 t) r0_9) (View.ld (iblk m c 3 t) r0_9) (ix2 r k)
      = gateAt m c (node t r) k := by
  refine (gate_block _ _ _ _ _ r k).trans ?_
  unfold gateAt
  congr 1
  · funext l; exact read0 m c t r (node t r) rfl l
  · funext l; exact read4 m c t l k
  · funext p; exact read2 m c t p k
  · funext p; exact read3 m c t p k

/-- The array of new cell states. -/
def cellArr : S10000x128.Idx → EReal := fun i => cellOf (gateAt m c (i 0)) (childAt m c (i 0)) (i 1)
/-- The array of new hidden states. -/
def hiddenArr : S10000x128.Idx → EReal := fun i => hiddenOf (gateAt m c (i 0)) (childAt m c (i 0)) (i 1)

/-- Row `r` of a block of new cell states lands at the row of its node. -/
theorem place6 (t : Fin cfg0.N) (r : Fin 200) (n : Fin 10000) (hn : n.val = 200 * t.val + r.val) (q : Fin 128) :
    (((View.whole main_v28_1).slice (win0_6.rect t)).emb (ix2 r q) : S10000x128.Idx) = ix2 n q := by
  blk_ext [idx6 t]
/-- Row `r` of a block of hidden states lands at the row of its node. -/
theorem place5 (t : Fin cfg0.N) (r : Fin 200) (n : Fin 10000) (hn : n.val = 200 * t.val + r.val) (q : Fin 128) :
    (((View.whole main_v28_0).slice (win0_5.rect t)).emb (ix2 r q) : S10000x128.Idx) = ix2 n q := by
  blk_ext [idx5 t]

end Cert.Cell

end
-- ==== Proof.Entry.lean ====
module

public import proofs.«01_k».proof.Proof.Block
public import Idealize.ShloMosaic.Lib.Claim
public import Idealize.ShloMosaic.Lib.StableHlo.ReadAt

/-! The arrays the region starts from, entry by entry, over the arguments. -/

@[expose] public section

set_option maxRecDepth 16384

noncomputable section

namespace Cert.Cell

open Cert.KernelIdeal Cert.KernelIdeal.Gen Idealize.ShloMosaic Idealize.ShloMosaic.TcCoe Idealize.SL.Sem
open scoped BigOperators

variable (m : (ℓ : Loc nD τ sig) → Buf (Elt Ideal) ℓ) (c : Dev nD)

/-- The nodes' inputs. -/
def ax : S10000x128.Idx → EReal := m ((c.tc : Thread nD τ).loc main_arg0)
/-- The children's hidden states. -/
def ah : S10000x2x128.Idx → EReal := m ((c.tc : Thread nD τ).loc main_arg1)
/-- The children's cell states. -/
def ac : S10000x2x128.Idx → EReal := m ((c.tc : Thread nD τ).loc main_arg2)
/-- The forget gates' tensor. -/
def fA : S128x128x256.Idx → EReal := m ((c.tc : Thread nD τ).loc main_arg3)
/-- The forget gates' matrix for the first child. -/
def fU : S128x256.Idx → EReal := m ((c.tc : Thread nD τ).loc main_arg4)
/-- The forget gates' matrix for the second child. -/
def fV : S128x256.Idx → EReal := m ((c.tc : Thread nD τ).loc main_arg5)
/-- The forget gates' bias. -/
def fb : S256.Idx → EReal := m ((c.tc : Thread nD τ).loc main_arg6)
/-- The other gates' tensor. -/
def gA : S128x128x384.Idx → EReal := m ((c.tc : Thread nD τ).loc main_arg7)
/-- The other gates' matrix for the first child. -/
def gU : S128x384.Idx → EReal := m ((c.tc : Thread nD τ).loc main_arg8)
/-- The other gates' matrix for the second child. -/
def gV : S128x384.Idx → EReal := m ((c.tc : Thread nD τ).loc main_arg9)
/-- The other gates' bias on the children's aggregate. -/
def gb : S384.Idx → EReal := m ((c.tc : Thread nD τ).loc main_arg10)
/-- The other gates' matrix for the input. -/
def gW : S128x384.Idx → EReal := m ((c.tc : Thread nD τ).loc main_arg11)
/-- The other gates' bias on the input. -/
def gd : S1x384.Idx → EReal := m ((c.tc : Thread nD τ).loc main_arg12)

/-- The small operand at a node: first child's state, second child's state, input, a one, zeros. -/
def leftRow (n : Fin 10000) (l : Fin 512) : EReal := (show S10000x512.Idx → EReal from V m c main_v6) (ix2 n l)
/-- The small table. -/
def rightAt (l : Fin 512) (k : Fin 640) : EReal := (show S512x640.Idx → EReal from V m c main_v26) (ix2 l k)
/-- The high part of the large table. -/
def highAt (p : Fin 16384) (k : Fin 640) : EReal := (show S16384x640.Idx → EReal from V m c main_v12) (ix2 p k)
/-- The low part of the large table. -/
def lowAt (p : Fin 16384) (k : Fin 640) : EReal := (show S16384x640.Idx → EReal from V m c main_v15) (ix2 p k)

/-- An entry of the small operand is an entry of a child, of the input, a one or a zero, by its column. -/
theorem left_eq (n : Fin 10000) (l : Fin 512) :
    leftRow m c n l
      = if h : l.val < 128 then ah m c (ix3 n 0 ⟨l.val, h⟩)
        else if h : l.val - 128 < 128 then ah m c (ix3 n 1 ⟨l.val - 128, h⟩)
        else if h : l.val - 128 - 128 < 128 then ax m c (ix2 n ⟨l.val - 128 - 128, h⟩)
        else if l.val - 128 - 128 - 128 < 1 then 1 else 0 := by
  unfold leftRow V
  after_reads_at
  after_reads_at
  rfl

/-- An entry of the small table is an entry of a matrix or of a bias, or zero, by its row and column. -/
theorem right_eq (l : Fin 512) (k : Fin 640) :
    rightAt m c l k
      = if h : l.val < 128 then
          if hk : k.val < 256 then fU m c (ix2 ⟨l.val, h⟩ ⟨k.val, hk⟩)
          else gU m c (ix2 ⟨l.val, h⟩ ⟨k.val - 256, by omega⟩)
        else if h : l.val - 128 < 128 then
          if hk : k.val < 256 then fV m c (ix2 ⟨l.val - 128, h⟩ ⟨k.val, hk⟩)
          else gV m c (ix2 ⟨l.val - 128, h⟩ ⟨k.val - 256, by omega⟩)
        else if h : l.val - 128 - 128 < 128 then
          if k.val < 256 then 0
          else gW m c (ix2 ⟨l.val - 128 - 128, h⟩ ⟨k.val - 256, by omega⟩)
        else if l.val - 128 - 128 - 128 < 1 then
          if hk : k.val < 256 then fb m c (ix1 ⟨k.val, hk⟩)
          else gb m c (ix1 ⟨k.val - 256, by omega⟩) + gd m c (ix2 0 ⟨k.val - 256, by omega⟩)
        else 0 := by
  unfold rightAt V
  after_reads_at
  after_reads_at
  after_reads_at
  rfl

/-- An entry of the high table is an entry of one of the two tensors, less one half. -/
theorem high_eq (p : Fin 16384) (k : Fin 640) :
    highAt m c p k
      = (if hk : k.val < 256 then fA m c (ix3 ⟨p.val / 128, by omega⟩ ⟨p.val % 128, by omega⟩ ⟨k.val, hk⟩)
          else gA m c (ix3 ⟨p.val / 128, by omega⟩ ⟨p.val % 128, by omega⟩ ⟨k.val - 256, by omega⟩))
        - Ideal.ofBits .f32 0x3F000000#32 := by
  unfold highAt
  entry_read
  pointwise
  rfl

/-- The low part is what the high part leaves of itself. -/
theorem low_eq (p : Fin 16384) (k : Fin 640) : lowAt m c p k = highAt m c p k - highAt m c p k := by
  unfold lowAt highAt V
  after_reads_at

/-- The children's cell states side by side. -/
theorem child_eq (n : Fin 10000) (a : Fin 2) (j : Fin 128) :
    ac m c (ix3 n a j) = childAt m c n ⟨128 * a.val + j.val, by omega⟩ := by
  unfold childAt
  entry_read
  pointwise
  rfl

/-- The first 128 columns hold the first child's state. -/
theorem left_first (n : Fin 10000) (i : Fin 128) : leftRow m c n ⟨i.val, by omega⟩ = ah m c (ix3 n 0 i) := by
  rw [left_eq, dif_pos i.isLt]
/-- The next 128 columns hold the second child's state. -/
theorem left_second (n : Fin 10000) (i : Fin 128) : leftRow m c n ⟨128 + i.val, by omega⟩ = ah m c (ix3 n 1 i) := by
  rw [left_eq, dif_neg (by simp), dif_pos (by simp)]
  simp
/-- The next 128 columns hold the input. -/
theorem left_input (n : Fin 10000) (i : Fin 128) : leftRow m c n ⟨256 + i.val, by omega⟩ = ax m c (ix2 n i) := by
  have e : 256 + i.val - 128 - 128 = i.val := by omega
  rw [left_eq, dif_neg (by simp; omega), dif_neg (by simp; omega), dif_pos (by simp; omega)]
  simp [e]
/-- Column 384 holds a one. -/
theorem left_one (n : Fin 10000) : leftRow m c n 384 = 1 := by
  rw [left_eq]; rfl
/-- The remaining columns hold zeros. -/
theorem left_zero (n : Fin 10000) (i : Fin 127) : leftRow m c n ⟨385 + i.val, by omega⟩ = 0 := by
  rw [left_eq, dif_neg (by simp; omega), dif_neg (by simp; omega), dif_neg (by simp; omega), if_neg (by simp; omega)]

/-- The first 128 rows hold the matrices of the first child. -/
theorem right_first (i : Fin 128) (k : Fin 640) :
    rightAt m c ⟨i.val, by omega⟩ k
      = if hk : k.val < 256 then fU m c (ix2 i ⟨k.val, hk⟩) else gU m c (ix2 i ⟨k.val - 256, by omega⟩) := by
  rw [right_eq, dif_pos i.isLt]
/-- The next 128 rows hold the matrices of the second child. -/
theorem right_second (i : Fin 128) (k : Fin 640) :
    rightAt m c ⟨128 + i.val, by omega⟩ k
      = if hk : k.val < 256 then fV m c (ix2 i ⟨k.val, hk⟩) else gV m c (ix2 i ⟨k.val - 256, by omega⟩) := by
  rw [right_eq, dif_neg (by simp), dif_pos (by simp)]
  simp
/-- The next 128 rows hold the input's matrix, with zeros under the forget gates. -/
theorem right_input (i : Fin 128) (k : Fin 640) :
    rightAt m c ⟨256 + i.val, by omega⟩ k
      = if k.val < 256 then 0 else gW m c (ix2 i ⟨k.val - 256, by omega⟩) := by
  have e : 256 + i.val - 128 - 128 = i.val := by omega
  rw [right_eq, dif_neg (by simp; omega), dif_neg (by simp; omega), dif_pos (by simp; omega)]
  simp [e]
/-- Row 384 holds the biases. -/
theorem right_one (k : Fin 640) :
    rightAt m c 384 k
      = if hk : k.val < 256 then fb m c (ix1 ⟨k.val, hk⟩)
        else gb m c (ix1 ⟨k.val - 256, by omega⟩) + gd m c (ix2 0 ⟨k.val - 256, by omega⟩) := by
  rw [right_eq]; rfl

/-- The small product splits into the two children's products, the input's product and the bias row. -/
theorem small_split (n : Fin 10000) (k : Fin 640) :
    ∑ l, leftRow m c n l * rightAt m c l k
      = ∑ i : Fin 128, ah m c (ix3 n 0 i) * rightAt m c ⟨i.val, by omega⟩ k
        + (∑ i : Fin 128, ah m c (ix3 n 1 i) * rightAt m c ⟨128 + i.val, by omega⟩ k
          + (∑ i : Fin 128, ax m c (ix2 n i) * rightAt m c ⟨256 + i.val, by omega⟩ k + rightAt m c 384 k)) := by
  rw [sum_512]
  simp only [left_first, left_second, left_input, left_one, left_zero, zero_mul, one_mul, Finset.sum_const_zero, add_zero]

/-- A column of the forget gates: the children's products and the bias. -/
theorem small_forget (n : Fin 10000) (k : Fin 256) :
    ∑ l, leftRow m c n l * rightAt m c l ⟨k.val, by omega⟩
      = ∑ i : Fin 128, ah m c (ix3 n 0 i) * fU m c (ix2 i k)
        + (∑ i : Fin 128, ah m c (ix3 n 1 i) * fV m c (ix2 i k) + fb m c (ix1 k)) := by
  rw [small_split]
  simp only [right_first, right_second, right_input, right_one, k.isLt, dite_true, if_true, mul_zero,
    Finset.sum_const_zero, zero_add]

/-- A column of the other gates: the children's products, the input's product and the two biases. -/
theorem small_iou (n : Fin 10000) (k : Fin 384) :
    ∑ l, leftRow m c n l * rightAt m c l ⟨256 + k.val, by omega⟩
      = ∑ i : Fin 128, ah m c (ix3 n 0 i) * gU m c (ix2 i k)
        + (∑ i : Fin 128, ah m c (ix3 n 1 i) * gV m c (ix2 i k)
          + (∑ i : Fin 128, ax m c (ix2 n i) * gW m c (ix2 i k) + (gb m c (ix1 k) + gd m c (ix2 0 k)))) := by
  have e : ¬ 256 + k.val < 256 := by omega
  rw [small_split]
  simp only [right_first, right_second, right_input, right_one, e, dite_false, if_false, Nat.add_sub_cancel_left]

/-- A column of the high part that belongs to the forget gates: the first tensor less one half. -/
theorem high_forget (p : Fin 16384) (k : Fin 256) :
    highAt m c p ⟨k.val, by omega⟩
      = fA m c (ix3 ⟨p.val / 128, by omega⟩ ⟨p.val % 128, by omega⟩ k) - Ideal.ofBits .f32 0x3F000000#32 := by
  rw [high_eq]
  simp only [k.isLt, dite_true]

/-- A column of the high part that belongs to the other gates: the second tensor less one half. -/
theorem high_iou (p : Fin 16384) (k : Fin 384) :
    highAt m c p ⟨256 + k.val, by omega⟩
      = gA m c (ix3 ⟨p.val / 128, by omega⟩ ⟨p.val % 128, by omega⟩ k) - Ideal.ofBits .f32 0x3F000000#32 := by
  have e : ¬ 256 + k.val < 256 := by omega
  rw [high_eq]
  simp only [e, dite_false, Nat.add_sub_cancel_left]

end Cert.Cell

end
-- ==== Proof.Array.lean ====
module

public import proofs.«01_k».proof.Proof.Block
public import Idealize.ShloMosaic.Lib.Pointwise
public import Idealize.ShloMosaic.Lib.Pipeline.Value
public import Idealize.ShloMosaic.Lib.Pipeline.ValueKit

/-! The two result arrays after the run, over the arrays the region starts from. -/

@[expose] public section

set_option maxRecDepth 16384

noncomputable section

namespace Cert.Cell

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A cell state of the array at a node and a column. -/
theorem cellArr_apply (n : Fin 10000) (q : Fin 128) :
    cellArr m c (ix2 n q) = cellOf (gateAt m c n) (childAt m c n) q := rfl

/-- What a grid point stores as cell states is the array at the block's place. -/
theorem cell_point (t : Fin cfg0.N) (r : Fin 200) (q : Fin 128) :
    k0_pay2 (F := Ideal) (k0_pay13 (iblk m c 0 t) (iblk m c 1 t) (iblk m c 2 t) (iblk m c 3 t) (iblk m c 4 t))
        (k0_pay14 (iblk m c 0 t) (iblk m c 1 t) (iblk m c 2 t) (iblk m c 3 t) (iblk m c 4 t))
        (k0_pay15 (iblk m c 0 t) (iblk m c 1 t) (iblk m c 2 t) (iblk m c 3 t) (iblk m c 4 t))
        (View.ld (iblk m c 2 t) r0_9) (View.ld (iblk m c 3 t) r0_9) (iblk m c 1 t) (ix2 r q)
      = cellArr m c (((View.whole main_v28_1).slice (win0_6.rect t)).emb (ix2 r q)) := by
  rw [place6 t r (node t r) rfl q]
  refine (cell_block _ _ _ _ _ _ r q).trans ?_
  refine Eq.trans ?_ (cellArr_apply m c (node t r) q).symm
  exact congrArg₂ (fun g s => cellOf g s q) (funext fun k => gate_point m c t r k)
    (funext fun j => read1 m c t r (node t r) rfl j)

/-- A hidden state of the array at a node and a column. -/
theorem hiddenArr_apply (n : Fin 10000) (q : Fin 128) :
    hiddenArr m c (ix2 n q) = hiddenOf (gateAt m c n) (childAt m c n) q := rfl

/-- What a grid point stores as hidden states is the array at the block's place. -/
theorem hidden_point (t : Fin cfg0.N) (r : Fin 200) (q : Fin 128) :
    k0_pay3 (F := Ideal) (k0_pay13 (iblk m c 0 t) (iblk m c 1 t) (iblk m c 2 t) (iblk m c 3 t) (iblk m c 4 t))
        (k0_pay14 (iblk m c 0 t) (iblk m c 1 t) (iblk m c 2 t) (iblk m c 3 t) (iblk m c 4 t))
        (k0_pay15 (iblk m c 0 t) (iblk m c 1 t) (iblk m c 2 t) (iblk m c 3 t) (iblk m c 4 t))
        (View.ld (iblk m c 2 t) r0_9) (View.ld (iblk m c 3 t) r0_9) (iblk m c 1 t) (ix2 r q)
      = hiddenArr m c (((View.whole main_v28_0).slice (win0_5.rect t)).emb (ix2 r q)) := by
  rw [place5 t r (node t r) rfl q]
  refine (hidden_block _ _ _ _ _ _ r q).trans ?_
  refine Eq.trans ?_ (hiddenArr_apply m c (node t r) q).symm
  exact congrArg₂ (fun g s => hiddenOf g s q) (funext fun k => gate_point m c t r k)
    (funext fun j => read1 m c t r (node t r) rfl j)

/-- After the run the second result holds the new cell states. -/
theorem cell_array : (dats m 0 c).arrAt 6 cfg0.N = cellArr m c := by
  refine (dats m 0 c).arrAt_eq_of_covers 6 _ (by decide +kernel) fun t hf y => ?_
  blk_simp
  rw [after0_6]
  frame_out
  rw [eq_ix2 y]
  exact cell_point m c t _ _

/-- After the run the first result holds the new hidden states. -/
theorem hidden_array : (dats m 0 c).arrAt 5 cfg0.N = hiddenArr m c := by
  refine (dats m 0 c).arrAt_eq_of_covers 5 _ (by decide +kernel) fun t hf y => ?_
  blk_simp
  rw [after0_5]
  frame_out
  rw [eq_ix2 y]
  exact hidden_point m c t _ _

end Cert.Cell

end
-- ==== Proof.Reference.lean ====
module

public import proofs.«01_k».proof.Proof.Gen.ReferenceIdeal.Read
public import proofs.«01_k».proof.Proof.Block
public import Idealize.ShloMosaic.Lib.Pointwise
public import Idealize.ShloMosaic.Lib.Claim
public import Idealize.ShloMosaic.PureOps.Ideal.Laws

/-! The reference's stages, entry by entry. -/

@[expose] public section

set_option maxRecDepth 16384

noncomputable section

namespace Cert.Cell

open Cert.ReferenceIdeal Cert.ReferenceIdeal.Read Idealize.ShloMosaic Idealize.ShloMosaic.TcCoe Idealize.SL.Sem
open scoped BigOperators

variable (x0 : Vec Ideal S10000x128 .f32) (x1 x2 : Vec Ideal S10000x2x128 .f32) (x3 : Vec Ideal S128x128x256 .f32)
  (x4 x5 : Vec Ideal S128x256 .f32) (x6 : Vec Ideal S256 .f32) (x7 : Vec Ideal S128x128x384 .f32)
  (x8 x9 : Vec Ideal S128x384 .f32)
  (x10 : Vec Ideal S384 .f32) (x11 : Vec Ideal S128x384 .f32) (x12 : Vec Ideal S1x384 .f32)

/-- The aggregate the forget gates are taken of. -/
theorem forget_stage (n : Fin 10000) (k : Fin 256) :
    val_main_v12 (F := Ideal) x1 x3 x4 x5 x6 (ix2 n k)
      = ∑ j : Fin 128, x1 (ix3 n 1 j) * ∑ i : Fin 128, x1 (ix3 n 0 i) * x3 (ix3 i j k)
        + ∑ i : Fin 128, x1 (ix3 n 0 i) * x4 (ix2 i k) + ∑ j : Fin 128, x1 (ix3 n 1 j) * x5 (ix2 j k) + x6 (ix1 k) := by
  pointwise [val_main_v12, val_main_v11, val_main_v10, val_main_v9, val_main_v8, val_main_v7,
    val_main_v6, val_main_v5, val_main_v4, val_main_v3, val_main_v2, val_main_v1, val_main_v0]

/-- The aggregate the input gate, the output gate and the update are taken of. -/
theorem iou_stage (n : Fin 10000) (k : Fin 384) :
    val_main_v38 (F := Ideal) x0 x1 x7 x8 x9 x10 x11 x12 (ix2 n k)
      = ∑ i : Fin 128, x0 (ix2 n i) * x11 (ix2 i k)
        + (∑ j : Fin 128, x1 (ix3 n 1 j) * ∑ i : Fin 128, x1 (ix3 n 0 i) * x7 (ix3 i j k)
          + ∑ i : Fin 128, x1 (ix3 n 0 i) * x8 (ix2 i k) + ∑ j : Fin 128, x1 (ix3 n 1 j) * x9 (ix2 j k) + x10 (ix1 k))
        + x12 (ix2 0 k) := by
  pointwise [val_main_v38, val_main_v37, val_main_v36, val_main_v35, val_main_v25, val_main_v24, val_main_v23,
    val_main_v22, val_main_v21, val_main_v20, val_main_v19, val_main_v18, val_main_v17, val_main_v16,
    val_main_v15, val_main_v14, val_main_v13]

/-- The cell state, from the two aggregates laid side by side and the children's cell states. -/
theorem cell_stage (n : Fin 10000) (q : Fin 128) (g : Fin 640 → EReal) (s : Fin 256 → EReal)
    (hf : ∀ k : Fin 256, val_main_v12 (F := Ideal) x1 x3 x4 x5 x6 (ix2 n k) = g ⟨k.val, by omega⟩)
    (hi : ∀ k : Fin 384, val_main_v38 (F := Ideal) x0 x1 x7 x8 x9 x10 x11 x12 (ix2 n k) = g ⟨256 + k.val, by omega⟩)
    (hs : ∀ (a : Fin 2) (j : Fin 128), x2 (ix3 n a j) = s ⟨128 * a.val + j.val, by omega⟩) :
    val_main_v56 (F := Ideal) x0 x1 x2 x3 x4 x5 x6 x7 x8 x9 x10 x11 x12 (ix2 n q) = cellOf g s q := by
  unfold val_main_v56 val_main_v55 val_main_v54 val_main_v47 val_main_v45 val_main_v43 val_main_v42 val_main_v39
    val_main_v41
    val_main_v34 val_main_v33 val_main_v32 val_main_v31 val_main_v29 val_main_v27 val_main_v26
  generalize val_main_v38 (F := Ideal) x0 x1 x7 x8 x9 x10 x11 x12 = I at hi ⊢
  generalize val_main_v12 (F := Ideal) x1 x3 x4 x5 x6 = A at hf ⊢
  pointwise [val_main_v46, val_main_v44, val_main_v30, val_main_v28, val_main_cst,
    val_main_cst_0, val_main_cst_1, val_main_cst_2, val_main_cst_3]
  rw [Fin.sum_univ_two, hi, hi, hf, hf, hs, hs]
  unfold cellOf Ideal.logistic
  have e0 : ∀ k : Fin 640, k.val = (0 : Fin 2).val * 128 + q.val → k = ⟨q.val, by omega⟩ := fun k h =>
    Fin.ext (h.trans (by show 0 * 128 + q.val = q.val; omega))
  have e1 : ∀ k : Fin 640, k.val = (1 : Fin 2).val * 128 + q.val → k = ⟨128 + q.val, by omega⟩ := fun k h =>
    Fin.ext (h.trans (by show 1 * 128 + q.val = 128 + q.val; omega))
  have s0 : ∀ k : Fin 256, k.val = 128 * (0 : Fin 2).val + q.val → k = ⟨q.val, by omega⟩ := fun k h =>
    Fin.ext (h.trans (by show 128 * 0 + q.val = q.val; omega))
  have u : ∀ k : Fin 640, k.val = 256 + (256 + q.val) → k = ⟨512 + q.val, by omega⟩ := fun k h =>
    Fin.ext (h.trans (by show 256 + (256 + q.val) = 512 + q.val; omega))
  rw [e0 ⟨_, _⟩ rfl, e1 ⟨_, _⟩ rfl, s0 ⟨_, _⟩ rfl, u ⟨_, _⟩ rfl]
  rfl

/-- The hidden state, from the same. -/
theorem hidden_stage (n : Fin 10000) (q : Fin 128) (g : Fin 640 → EReal) (s : Fin 256 → EReal)
    (hi : ∀ k : Fin 384, val_main_v38 (F := Ideal) x0 x1 x7 x8 x9 x10 x11 x12 (ix2 n k) = g ⟨256 + k.val, by omega⟩)
    (hc : val_main_v56 (F := Ideal) x0 x1 x2 x3 x4 x5 x6 x7 x8 x9 x10 x11 x12 (ix2 n q) = cellOf g s q) :
    val_main_v58 (F := Ideal) x0 x1 x2 x3 x4 x5 x6 x7 x8 x9 x10 x11 x12 (ix2 n q) = hiddenOf g s q := by
  unfold val_main_v58 val_main_v57 val_main_v53 val_main_v51 val_main_v49 val_main_v48 val_main_v40
  generalize val_main_v56 (F := Ideal) x0 x1 x2 x3 x4 x5 x6 x7 x8 x9 x10 x11 x12 = C at hc ⊢
  generalize val_main_v38 (F := Ideal) x0 x1 x7 x8 x9 x10 x11 x12 = I at hi ⊢
  pointwise [val_main_v52, val_main_v50, val_main_cst_4, val_main_cst_5]
  rw [hc, hi]
  have e : ∀ k : Fin 640, k.val = 256 + (128 + q.val) → k = ⟨384 + q.val, by omega⟩ := fun k h =>
    Fin.ext (h.trans (by show 256 + (128 + q.val) = 384 + q.val; omega))
  rw [e ⟨_, _⟩ rfl]
  rfl

end Cert.Cell

end
-- ==== Proof.Value.lean ====
module

public import proofs.«01_k».proof.Defs
public import proofs.«01_k».proof.Proof.Gen.Pre_tensors_finite
public import proofs.«01_k».proof.Proof.Entry
public import proofs.«01_k».proof.Proof.Array
public import proofs.«01_k».proof.Proof.Reference

/-! Under the precondition the kernel's arrays are the reference's results. -/

@[expose] public section

noncomputable section

namespace Cert.Cell

open Cert.KernelIdeal Cert.KernelIdeal.Gen Idealize.ShloMosaic Idealize.ShloMosaic.TcCoe Idealize.SL.Sem
open Cert.ReferenceIdeal.Read
open scoped BigOperators

/-- A value whose size is below infinity is a real number. -/
theorem real_of_below (s : Shape) (h : (⟨0, ![]⟩ : Shape).BroadcastsInDim s (![] : Fin 0 → Fin s.rank))
    (x : FVec Ideal s .f32)
    (e : cmpf .olt (Host.absf x) (broadcastInDim s ![] h (constant ⟨0, ![]⟩ .f32 0x7F800000#32)) = fun _ => 1#1)
    (i : s.Idx) : ∃ r : ℝ, x i = (r : EReal) := by
  have e := congrFun e i
  simp only [cmpf, Host.absf, broadcastInDim, constant, Ideal.hostAbsf_def] at e
  generalize x i = y at e ⊢
  have t : (FloatOps.ofBits .f32 0x7F800000#32 : Ideal .f32) = (⊤ : EReal) := by
    simp [Ideal.ofBits, Ideal.ieee]
  rw [t] at e
  change BitVec.ofBool (decide (max (y : EReal) (-y) < ⊤)) = 1#1 at e
  induction y using EReal.rec with
  | bot => simp at e
  | top => simp at e
  | coe r => exact ⟨r, rfl⟩

/-- A gate whose first two rows and tensor are finite, over the rows and the tensor themselves. -/
theorem gate_contract (x b : Fin 512 → EReal) (u v : Fin 128 → EReal) (T : Fin 128 → Fin 128 → EReal)
    (hi lo : Fin 16384 → EReal)
    (ru : ∀ i, ∃ r : ℝ, u i = (r : EReal)) (rv : ∀ j, ∃ r : ℝ, v j = (r : EReal))
    (rT : ∀ i j, ∃ r : ℝ, T i j = (r : EReal))
    (hu : ∀ i : Fin 128, x ⟨i.val, by omega⟩ = u i) (hv : ∀ j : Fin 128, x ⟨128 + j.val, by omega⟩ = v j)
    (hhi : ∀ r, hi r = T ⟨r.val / 128, by omega⟩ ⟨r.val % 128, by omega⟩ - Ideal.ofBits .f32 0x3F000000#32)
    (hlo : ∀ r, lo r = hi r - hi r) :
    gate x b hi lo = ∑ l, x l * b l + ∑ j : Fin 128, v j * ∑ i : Fin 128, u i * T i j := by
  choose p hp using ru
  choose q hq using rv
  choose a ha using rT
  refine (gate_eq x b p q (fun r => a ⟨r.val / 128, by omega⟩ ⟨r.val % 128, by omega⟩)
    (fun i => (hu i).trans (hp i)) (fun j => (hv j).trans (hq j)) hi lo (fun r => ?_) hlo).trans ?_
  · rw [hhi, ha]
  · refine congrArg (_ + ·) (Finset.sum_congr rfl fun j _ => ?_)
    rw [hq]
    refine congrArg (_ * ·) (Finset.sum_congr rfl fun i _ => ?_)
    rw [hp, ha]
    have e1 : (⟨(128 * i.val + j.val) / 128, by omega⟩ : Fin 128) = i :=
      Fin.ext (by show (128 * i.val + j.val) / 128 = _; omega)
    have e2 : (⟨(128 * i.val + j.val) % 128, by omega⟩ : Fin 128) = j :=
      Fin.ext (by show (128 * i.val + j.val) % 128 = _; omega)
    show _ * ((a ⟨(128 * i.val + j.val) / 128, _⟩ ⟨(128 * i.val + j.val) % 128, _⟩ : ℝ) : EReal) = _
    rw [e1, e2]

variable (m : (ℓ : Loc nD τ sig) → Buf (Elt Ideal) ℓ) (c : Dev nD)

/-- Under the precondition every hidden state of a child is a real number. -/
theorem state_real (hp : Cert.Pre_KernelIdeal_tensors_finite m) (i : S10000x2x128.Idx) :
    ∃ r : ℝ, ah m c i = (r : EReal) := real_of_below _ _ _ (hp c).1 i
/-- Under the precondition every entry of the forget gates' tensor is a real number. -/
theorem forget_real (hp : Cert.Pre_KernelIdeal_tensors_finite m) (i : S128x128x256.Idx) :
    ∃ r : ℝ, fA m c i = (r : EReal) := real_of_below _ _ _ (hp c).2.1 i
/-- Under the precondition every entry of the other gates' tensor is a real number. -/
theorem iou_real (hp : Cert.Pre_KernelIdeal_tensors_finite m) (i : S128x128x384.Idx) :
    ∃ r : ℝ, gA m c i = (r : EReal) := real_of_below _ _ _ (hp c).2.2 i

/-- The forget gates' aggregate is the kernel's. -/
theorem forget_gate (hp : Cert.Pre_KernelIdeal_tensors_finite m) (n : Fin 10000) (k : Fin 256) :
    val_main_v12 (F := Ideal) (ah m c) (fA m c) (fU m c) (fV m c) (fb m c) (ix2 n k)
      = gateAt m c n ⟨k.val, by omega⟩ := by
  have h := gate_contract (leftRow m c n) (fun l => rightAt m c l ⟨k.val, by omega⟩)
    (fun i => ah m c (ix3 n 0 i)) (fun j => ah m c (ix3 n 1 j)) (fun i j => fA m c (ix3 i j k))
    (fun r => highAt m c r ⟨k.val, by omega⟩) (fun r => lowAt m c r ⟨k.val, by omega⟩)
    (fun i => state_real m c hp _) (fun j => state_real m c hp _) (fun i j => forget_real m c hp _)
    (left_first m c n) (left_second m c n) (fun r => high_forget m c r k) (fun r => low_eq m c r _)
  rw [small_forget] at h
  refine (forget_stage _ _ _ _ _ n k).trans (Eq.trans ?_ h.symm)
  ac_rfl

/-- The other gates' aggregate is the kernel's. -/
theorem iou_gate (hp : Cert.Pre_KernelIdeal_tensors_finite m) (n : Fin 10000) (k : Fin 384) :
    val_main_v38 (F := Ideal) (ax m c) (ah m c) (gA m c) (gU m c) (gV m c) (gb m c) (gW m c) (gd m c) (ix2 n k)
      = gateAt m c n ⟨256 + k.val, by omega⟩ := by
  have h := gate_contract (leftRow m c n) (fun l => rightAt m c l ⟨256 + k.val, by omega⟩)
    (fun i => ah m c (ix3 n 0 i)) (fun j => ah m c (ix3 n 1 j)) (fun i j => gA m c (ix3 i j k))
    (fun r => highAt m c r ⟨256 + k.val, by omega⟩) (fun r => lowAt m c r ⟨256 + k.val, by omega⟩)
    (fun i => state_real m c hp _) (fun j => state_real m c hp _) (fun i j => iou_real m c hp _)
    (left_first m c n) (left_second m c n) (fun r => high_iou m c r k) (fun r => low_eq m c r _)
  rw [small_iou] at h
  refine (iou_stage _ _ _ _ _ _ _ _ n k).trans (Eq.trans ?_ h.symm)
  ac_rfl

/-- The reference's cell states are the kernel's. -/
theorem cell_value (hp : Cert.Pre_KernelIdeal_tensors_finite m) :
    val_main_v56 (F := Ideal) (ax m c) (ah m c) (ac m c) (fA m c) (fU m c) (fV m c) (fb m c) (gA m c) (gU m c) (gV m c)
      (gb m c) (gW m c) (gd m c) = cellArr m c := by
  funext i
  rw [eq_ix2 i]
  exact cell_stage _ _ _ _ _ _ _ _ _ _ _ _ _ _ _ _ _ (forget_gate m c hp _) (iou_gate m c hp _) (child_eq m c _)

/-- The reference's hidden states are the kernel's. -/
theorem hidden_value (hp : Cert.Pre_KernelIdeal_tensors_finite m) :
    val_main_v58 (F := Ideal) (ax m c) (ah m c) (ac m c) (fA m c) (fU m c) (fV m c) (fb m c) (gA m c) (gU m c) (gV m c)
      (gb m c) (gW m c) (gd m c) = hiddenArr m c := by
  funext i
  rw [eq_ix2 i]
  exact hidden_stage _ _ _ _ _ _ _ _ _ _ _ _ _ _ _ _ _ (iou_gate m c hp _)
    (cell_stage _ _ _ _ _ _ _ _ _ _ _ _ _ _ _ _ _ (forget_gate m c hp _) (iou_gate m c hp _) (child_eq m c _))

end Cert.Cell

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_tensors_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs to its end, keeps its arguments and declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Of finite children's states and tensors the kernel's two results are the reference's. -/
theorem results : Cert.algebraic_KernelIdeal_ReferenceIdeal_pre_tensors_finite := by
  intro m g m' g' hp ha
  refine ⟨fun c => Cert.Cell.hiddenArr m c, fun c => Cert.Cell.cellArr m c, ?_, ?_⟩
  · exact (θ_run Cert.KernelIdeal.defs _ _).mono
      (fun _ h c => ⟨((h.1 c).1 5).trans (Cert.Cell.hidden_array m c),
        ((h.1 c).1 6).trans (Cert.Cell.cell_array m c), h.2 c⟩)
      (θ_run_and (Cert.KernelIdeal.Gen.run_main m g) (Cert.KernelIdeal.Gen.unchanged m g))
  · refine (θ_run Cert.ReferenceIdeal.defs _ _).mono (fun _ h c => ⟨(h c).1.trans ?_, (h c).2.1.trans ?_, (h c).2.2⟩)
      (Cert.ReferenceIdeal.Value.run (F := Ideal) m' g')
    · obtain ⟨a0, a1, a2, a3, a4, a5, a6, a7, a8, a9, a10, a11, a12⟩ := ha c
      rw [Cert.ReferenceIdeal.Read.val_main_v58_eq, a0, a1, a2, a3, a4, a5, a6, a7, a8, a9, a10, a11, a12]
      exact Cert.Cell.hidden_value m c hp
    · obtain ⟨a0, a1, a2, a3, a4, a5, a6, a7, a8, a9, a10, a11, a12⟩ := ha c
      rw [Cert.ReferenceIdeal.Read.val_main_v56_eq, a0, a1, a2, a3, a4, a5, a6, a7, a8, a9, a10, a11, a12]
      exact Cert.Cell.cell_value m c hp

/-- Every claim of the certificate. -/
theorem claim : Cert.Claim := ⟨Cert.Kernel.Gen.facts, Cert.KernelIdeal.Gen.facts, Cert.ReferenceIdeal.Gen.facts,
  Cert.Pre_tensors_finite.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, results⟩

end Cert.Proof

end
